-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_equal_weights [hPre_equal_weights : Cert.Pre_equal_weights.Facts] (m : (ℓ : Loc Cert.KernelIdeal.nD Cert.KernelIdeal.τ Cert.KernelIdeal.sig) → Buf (Elt Ideal) ℓ) : Prop :=
  ∀ c : Dev Cert.KernelIdeal.nD,
    (Cert.Pre_equal_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_equal_weights [hPre_equal_weights : Cert.Pre_equal_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_equal_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_equal_weights [hKernelIdeal : Cert.KernelIdeal.Facts] [hPre_equal_weights : Cert.Pre_equal_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_equal_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_equal_weights [hReferenceIdeal : Cert.ReferenceIdeal.Facts] [hPre_equal_weights : Cert.Pre_equal_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_equal_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_equal_weights [hKernelIdeal : Cert.KernelIdeal.Facts] [hReferenceIdeal : Cert.ReferenceIdeal.Facts] [hPre_equal_weights : Cert.Pre_equal_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_equal_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_equal_weights : Cert.Pre_equal_weights.Facts),
    quiescent_Kernel (hKernel := hKernel)
    ∧ quiescent_KernelIdeal (hKernelIdeal := hKernelIdeal)
    ∧ quiescent_KernelIdeal_pre_equal_weights (hKernelIdeal := hKernelIdeal) (hPre_equal_weights := hPre_equal_weights)
    ∧ quiescent_ReferenceIdeal (hReferenceIdeal := hReferenceIdeal)
    ∧ quiescent_ReferenceIdeal_pre_equal_weights (hReferenceIdeal := hReferenceIdeal) (hPre_equal_weights := hPre_equal_weights)
    ∧ preserves_Kernel_KernelIdeal
    ∧ algebraic_KernelIdeal_ReferenceIdeal_pre_equal_weights (hKernelIdeal := hKernelIdeal) (hReferenceIdeal := hReferenceIdeal) (hPre_equal_weights := hPre_equal_weights)
-- ==== Pre_equal_weights.lean ====
abbrev S4x192x64x64 : Shape := ⟨4, ![4, 192, 64, 64]⟩
abbrev S30 : Shape := ⟨1, ![30]⟩
abbrev S_ : Shape := ⟨0, ![]⟩
abbrev S1 : Shape := ⟨1, ![1]⟩

class Facts : Prop where
  bcast_S_S4x192x64x64 : S_.BroadcastsInDim S4x192x64x64 (![] : Fin 0 → Fin S4x192x64x64.rank)
  slices_S30_S1_0 : S30.Slices ![0] S1
  shapeCasts_S1_S_ : S1.ShapeCasts S_
  bcast_S_S30 : S_.BroadcastsInDim S30 (![] : Fin 0 → Fin S30.rank)
  reducesTo_S30_S_d0 : S30.ReducesTo [0] S_
  h_S_ : 0 < S_.numel

variable [Facts]

def fn {F : FTy → Type} [FloatOps F] (main_arg0 : FVec F S4x192x64x64 .f32) (main_arg1 : FVec F S4x192x64x64 .f32) (main_arg2 : FVec F S30 .f32) : IVec S4x192x64x64 1 :=
  let main_cst : FVec F S_ .f32 := constant S_ .f32 0x7F800000#32
  let main_v0 : FVec F S4x192x64x64 .f32 := broadcastInDim S4x192x64x64 ![] bcast_S_S4x192x64x64 main_cst
  let main_v1 : IVec S4x192x64x64 1 := cmpf .olt main_arg0 main_v0
  let main_v2 : FVec F S1 .f32 := (extractStridedSlice S1 ![0] · slices_S30_S1_0) main_arg2
  let main_v3 : FVec F S_ .f32 := shapeCast S_ main_v2 shapeCasts_S1_S_
  let main_v4 : FVec F S30 .f32 := broadcastInDim S30 ![] bcast_S_S30 main_v3
  let main_v5 : IVec S30 1 := cmpf .oeq main_arg2 main_v4
  let main_cst_0 : FVec F S_ .f32 := constant S_ .f32 0x7F800000#32
  let main_v6 : FVec F S30 .f32 := broadcastInDim S30 ![] bcast_S_S30 main_cst_0
  let main_v7 : IVec S30 1 := cmpf .olt main_arg2 main_v6
  let main_v8 : IVec S30 1 := andi main_v5 main_v7
  let main_c : IVec S_ 1 := constantI S_ 1 1#1
  let main_v9 : IVec S_ 1 := (fun x v => Host.reduce IntOp.andi x v reducesTo_S30_S_d0 h_S_) main_v8 main_c
  let main_v10 : IVec S4x192x64x64 1 := broadcastInDim S4x192x64x64 ![] bcast_S_S4x192x64x64 main_v9
  let main_v11 : IVec S4x192x64x64 1 := andi main_v1 main_v10
  main_v11
-- ==== Kernel.lean ====
abbrev S4x192x64x64 : Shape := ⟨4, ![4, 192, 64, 64]⟩
abbrev S30 : Shape := ⟨1, ![30]⟩
abbrev S4x64x64x192 : Shape := ⟨4, ![4, 64, 64, 192]⟩
abbrev S2x64x64x192 : Shape := ⟨4, ![2, 64, 64, 192]⟩
abbrev S1 : Shape := ⟨1, ![1]⟩

abbrev nBuf : Space → Nat
  | .hbm => 7
  | .vmem => 6
  | .smem => 1
  | _ => 0

abbrev bufTy : (tb : Table) → Fin (tcTables nBuf tb) → BufTy
  | .hbm, ⟨0, _⟩ => ⟨S4x192x64x64, .f32⟩
  | .hbm, ⟨1, _⟩ => ⟨S4x192x64x64, .f32⟩
  | .hbm, ⟨2, _⟩ => ⟨S30, .f32⟩
  | .hbm, ⟨3, _⟩ => ⟨S4x64x64x192, .f32⟩
  | .hbm, ⟨4, _⟩ => ⟨S4x64x64x192, .f32⟩
  | .hbm, ⟨5, _⟩ => ⟨S4x64x64x192, .f32⟩
  | .hbm, ⟨6, _⟩ => ⟨S4x192x64x64, .f32⟩
  | .local _ .vmem, ⟨0, _⟩ => ⟨S2x64x64x192, .f32⟩
  | .local _ .vmem, ⟨1, _⟩ => ⟨S2x64x64x192, .f32⟩
  | .local _ .vmem, ⟨2, _⟩ => ⟨S2x64x64x192, .f32⟩
  | .local _ .vmem, ⟨3, _⟩ => ⟨S2x64x64x192, .f32⟩
  | .local _ .vmem, ⟨4, _⟩ => ⟨S2x64x64x192, .f32⟩
  | .local _ .vmem, ⟨5, _⟩ => ⟨S2x64x64x192, .f32⟩
  | .local _ .smem, ⟨0, _⟩ => ⟨S30, .f32⟩
  | _, _ => ⟨S4x192x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 1], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S30 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2x64x64x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x64x64x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x64x64x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x192x64x64 : Shape := ⟨4, ![4, 192, 64, 64]⟩
abbrev S30 : Shape := ⟨1, ![30]⟩
abbrev S_ : Shape := ⟨0, ![]⟩
abbrev S1 : Shape := ⟨1, ![1]⟩
abbrev S61 : Shape := ⟨1, ![61]⟩
abbrev S60 : Shape := ⟨1, ![60]⟩
abbrev S3145728 : Shape := ⟨1, ![3145728]⟩
abbrev S3145728x1 : Shape := ⟨2, ![3145728, 1]⟩
abbrev S1x61 : Shape := ⟨2, ![1, 61]⟩
abbrev S3145728x61 : Shape := ⟨2, ![3145728, 61]⟩

abbrev nBuf : Space → Nat
  | .hbm => 66
  | .vmem => 0
  | .smem => 0
  | _ => 0

abbrev bufTy : (tb : Table) → Fin (tcTables nBuf tb) → BufTy
  | .hbm, ⟨0, _⟩ => ⟨S4x192x64x64, .f32⟩
  | .hbm, ⟨1, _⟩ => ⟨S4x192x64x64, .f32⟩
  | .hbm, ⟨2, _⟩ => ⟨S30, .f32⟩
  | .hbm, ⟨3, _⟩ => ⟨S_, .f32⟩
  | .hbm, ⟨4, _⟩ => ⟨S_, .f32⟩
  | .hbm, ⟨5, _⟩ => ⟨S30, .f32⟩
  | .hbm, ⟨6, _⟩ => ⟨S30, .f32⟩
  | .hbm, ⟨7, _⟩ => ⟨S30, .f32⟩
  | .hbm, ⟨8, _⟩ => ⟨S_, .f32⟩
  | .hbm, ⟨9, _⟩ => ⟨S1, .f32⟩
  | .hbm, ⟨10, _⟩ => ⟨S61, .f32⟩
  | .hbm, ⟨11, _⟩ => ⟨S60, .f32⟩
  | .hbm, ⟨12, _⟩ => ⟨S60, .f32⟩
  | .hbm, ⟨13, _⟩ => ⟨S60, .f32⟩
  | .hbm, ⟨14, _⟩ => ⟨S_, .f32⟩
  | .hbm, ⟨15, _⟩ => ⟨S60, .f32⟩
  | .hbm, ⟨16, _⟩ => ⟨S60, .f32⟩
  | .hbm, ⟨17, _⟩ => ⟨S60, .f32⟩
  | .hbm, ⟨18, _⟩ => ⟨S60, .f32⟩
  | .hbm, ⟨19, _⟩ => ⟨S60, .f32⟩
  | .hbm, ⟨20, _⟩ => ⟨S_, .f32⟩
  | .hbm, ⟨21, _⟩ => ⟨S60, .f32⟩
  | .hbm, ⟨22, _⟩ => ⟨S60, .f32⟩
  | .hbm, ⟨23, _⟩ => ⟨S1, .f32⟩
  | .hbm, ⟨24, _⟩ => ⟨S_, .f32⟩
  | .hbm, ⟨25, _⟩ => ⟨S1, .f32⟩
  | .hbm, ⟨26, _⟩ => ⟨S_, .f32⟩
  | .hbm, ⟨27, _⟩ => ⟨S_, .f32⟩
  | .hbm, ⟨28, _⟩ => ⟨S1, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1, .f32⟩
  | .hbm, ⟨35, _⟩ => ⟨S61, .f32⟩
  | .hbm, ⟨36, _⟩ => ⟨S1, .f32⟩
  | .hbm, ⟨37, _⟩ => ⟨S61, .f32⟩
  | .hbm, ⟨38, _⟩ => ⟨S_, .f32⟩
  | .hbm, ⟨39, _⟩ => ⟨S1, .f32⟩
  | .hbm, ⟨40, _⟩ => ⟨S61, .f32⟩
  | .hbm, ⟨41, _⟩ => ⟨S_, .f32⟩
  | .hbm, ⟨42, _⟩ => ⟨S1, .f32⟩
  | .hbm, ⟨43, _⟩ => ⟨S61, .f32⟩
  | .hbm, ⟨44, _⟩ => ⟨S3145728, .f32⟩
  | .hbm, ⟨45, _⟩ => ⟨S3145728x1, .f32⟩
  | .hbm, ⟨46, _⟩ => ⟨S1x61, .f32⟩
  | .hbm, ⟨47, _⟩ => ⟨S3145728x61, .f32⟩
  | .hbm, ⟨48, _⟩ => ⟨S3145728x61, .f32⟩
  | .hbm, ⟨49, _⟩ => ⟨S3145728x61, .i1⟩
  | .hbm, ⟨50, _⟩ => ⟨S3145728x1, .f32⟩
  | .hbm, ⟨51, _⟩ => ⟨S1x61, .f32⟩
  | .hbm, ⟨52, _⟩ => ⟨S3145728x61, .f32⟩
  | .hbm, ⟨53, _⟩ => ⟨S3145728x61, .f32⟩
  | .hbm, ⟨54, _⟩ => ⟨S3145728x61, .i1⟩
  | .hbm, ⟨55, _⟩ => ⟨S3145728x61, .i1⟩
  | .hbm, ⟨56, _⟩ => ⟨S3145728x61, .f32⟩
  | .hbm, ⟨57, _⟩ => ⟨S3145728, .f32⟩
  | .hbm, ⟨58, _⟩ => ⟨S4x192x64x64, .f32⟩
  | .hbm, ⟨59, _⟩ => ⟨S3145728, .f32⟩
  | .hbm, ⟨60, _⟩ => ⟨S4x192x64x64, .f32⟩
  | .hbm, ⟨61, _⟩ => ⟨S4x192x64x64, .f32⟩
  | .hbm, ⟨62, _⟩ => ⟨S4x192x64x64, .f32⟩
  | .hbm, ⟨63, _⟩ => ⟨S4x192x64x64, .f32⟩
  | .hbm, ⟨64, _⟩ => ⟨S4x192x64x64, .f32⟩
  | .hbm, ⟨65, _⟩ => ⟨S4x192x64x64, .f32⟩
  | _, _ => ⟨S4x192x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_call0_cst : Ref sig .tc := ⟨.hbm, 3, rfl⟩
abbrev main_call0_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩

abbrev nD : Nat := 1
abbrev τ : Topo := Topo.v7x

variable {F : FTy → Type} [FloatOps F]
-- ==== Proof.Bins.lean ====
/-
  THE ARITHMETIC OF ONE ELEMENT, over the extended reals and free of any program. An element `x` is put into one of 61
  half-open bins; the reference sums over all bins, one of which at most contributes, and the kernel compares with three
  bounds. `sum_cells` is the reason they agree: adjacent cells of a monotone or antitone sequence of edges make up one
  cell between the outermost edges. `sample_eq` is the last line of both programs, which they write differently.
-/
module

public import Mathlib.Data.EReal.Operations
public import Mathlib.Algebra.BigOperators.Fin
public import Mathlib.Tactic.Ring
public import Mathlib.Tactic.Linarith
public import Mathlib.Tactic.NormNum

@[expose] public section

noncomputable section

namespace Cert.Bins

open scoped BigOperators

/-- `v` where `x` lies in the half-open cell `(lo, hi]`, zero elsewhere. -/
def cell (x lo hi v : EReal) : EReal := if lo < x ∧ x ≤ hi then v else 0

theorem cell_empty {x lo hi : EReal} (h : hi ≤ lo) (v : EReal) : cell x lo hi v = 0 :=
  if_neg fun hx => absurd (hx.2.trans h) (not_le.mpr hx.1)

theorem cell_zero (x lo hi : EReal) : cell x lo hi 0 = 0 := by simp [cell]

/-- Two adjacent cells of ordered edges make up one. -/
theorem cell_add {lo mid hi : EReal} (h₁ : lo ≤ mid) (h₂ : mid ≤ hi) (x v : EReal) :
    cell x lo mid v + cell x mid hi v = cell x lo hi v := by
  unfold cell
  rcases lt_or_ge mid x with hx | hx
  · rw [if_neg (fun h => absurd h.2 (not_le.mpr hx)), zero_add]
    exact if_congr ⟨fun h => ⟨h₁.trans_lt hx, h.2⟩, fun h => ⟨hx, h.2⟩⟩ rfl rfl
  · rw [if_neg (fun h : mid < x ∧ x ≤ hi => absurd h.1 (not_lt.mpr hx)), add_zero]
    exact if_congr ⟨fun h => ⟨h.1, h.2.trans h₂⟩, fun h => ⟨h.1, hx⟩⟩ rfl rfl

/-- The cells between consecutive edges of a sequence that rises throughout, or falls throughout, sum to the cell
    between its first edge and its last: where it falls, every one of them is empty. -/
theorem sum_cells {e : ℕ → EReal} (he : Monotone e ∨ Antitone e) (x v : EReal) (n : ℕ) :
    ∑ k : Fin n, cell x (e k) (e (k + 1)) v = cell x (e 0) (e n) v := by
  induction n with
  | zero => simp [cell_empty le_rfl]
  | succ n ih =>
    rw [Fin.sum_univ_castSucc]
    simp only [Fin.val_castSucc, Fin.val_last, ih]
    rcases he with he | he
    · exact cell_add (he (Nat.zero_le n)) (he (Nat.le_succ n)) x v
    · rw [cell_empty (he (Nat.zero_le n)), cell_empty (he (Nat.le_succ n)), cell_empty (he (Nat.zero_le (n + 1))), add_zero]

/-- The edges of the bins when every weight is the real `r`: the midpoints `(j - 59/2) r`. -/
def edge (r : ℝ) (j : ℕ) : EReal := (((j : ℝ) - 59 / 2) * r : ℝ)

theorem edge_ordered (r : ℝ) : Monotone (edge r) ∨ Antitone (edge r) := by
  rcases le_total 0 r with hr | hr
  · exact .inl fun i j h => EReal.coe_le_coe_iff.mpr
      (mul_le_mul_of_nonneg_right (sub_le_sub_right (Nat.cast_le.mpr h) _) hr)
  · exact .inr fun i j h => EReal.coe_le_coe_iff.mpr
      (mul_le_mul_of_nonpos_right (sub_le_sub_right (Nat.cast_le.mpr h) _) hr)

/-- The edges of the bins when every weight is `⊥`: the lower half lies at `⊤` and the upper half at `⊥`. -/
def edgeBot (j : ℕ) : EReal := if j < 30 then ⊤ else ⊥

theorem edgeBot_ordered : Monotone edgeBot ∨ Antitone edgeBot := by
  refine .inr fun i j h => ?_
  unfold edgeBot
  by_cases hi : i < 30
  · rw [if_pos hi]; exact le_top
  · rw [if_neg hi, if_neg (by omega)]

/-- The distance to the LEFT edge, summed over the 61 bins of the reference: the first bin has distance zero, and the
    others make up one cell. -/
theorem left_sum {e : ℕ → EReal} (he : Monotone e ∨ Antitone e) (x d : EReal) {L R D : Fin 61 → EReal}
    (hL : ∀ k : Fin 60, L k.succ = e k) (hR : ∀ k : Fin 61, R k = e k)
    (hD0 : D 0 = 0) (hD : ∀ k : Fin 60, D k.succ = d) :
    ∑ k, cell x (L k) (R k) (D k) = cell x (e 0) (e 60) d := by
  rw [Fin.sum_univ_succ, hD0, cell_zero, zero_add, ← sum_cells he x d 60]
  exact Finset.sum_congr rfl fun k _ => by rw [hL, hR, hD, Fin.val_succ]

/-- The distance to the RIGHT edge, summed over the 61 bins: the first bin, whose lower bound is the topmost edge, stands
    alone, the last has distance zero, and the ones between make up one cell. -/
theorem right_sum {e : ℕ → EReal} (he : Monotone e ∨ Antitone e) (x d : EReal) {L R D : Fin 61 → EReal}
    (hL0 : L 0 = e 60) (hL : ∀ k : Fin 60, L k.succ = e k) (hR : ∀ k : Fin 61, R k = e k)
    (hD : ∀ k : Fin 60, D k.castSucc = d) (hD60 : D (Fin.last 60) = 0) :
    ∑ k, cell x (L k) (R k) (D k) = cell x (e 0) (e 59) d + cell x (e 60) (e 0) d := by
  rw [Fin.sum_univ_castSucc, hD60, cell_zero, add_zero, Fin.sum_univ_succ, ← sum_cells he x d 59, add_comm]
  refine congrArg₂ (· + ·) (Finset.sum_congr rfl fun k _ => ?_) ?_
  · rw [hD, hR, ← Fin.succ_castSucc, hL]; simp
  · rw [hD, hR, Fin.castSucc_zero, hL0]; simp

/-- A cell of a real value holds a real. -/
theorem cell_real (x lo hi : EReal) (d : ℝ) : ∃ v : ℝ, cell x lo hi d = v := by
  unfold cell; split
  · exact ⟨d, rfl⟩
  · exact ⟨0, EReal.coe_zero.symm⟩

/-- The last line of the two programs, at real distances: a sample of the interval from `x - a` to `x + b`. No bound
    on the noise `z` is needed, and of `x` only that it is not `⊤`. -/
theorem sample_eq {x : EReal} (hx : x < ⊤) (a b : ℝ) (z : EReal) :
    (x - a - (x + b)) * z + (x + b) = x + b - (a + b) * z := by
  induction x with
  | top => exact absurd hx (lt_irrefl _)
  | bot => simp [EReal.bot_sub]
  | coe x =>
    rw [show ((x : EReal) - a - (x + b)) = -((a : EReal) + b) by norm_cast; ring_nf, EReal.neg_mul, add_comm,
      sub_eq_add_neg]

/-- The last line of the two programs when every weight is `⊥`: no element has a left distance, and every element above
    `⊥` has the right distance `⊥`. -/
theorem sample_bot {x : EReal} (hx : x < ⊤) (z : EReal) :
    (x - cell x ⊤ ⊥ ⊥ - (x + (cell x ⊤ ⊥ ⊥ + cell x ⊥ ⊤ ⊥))) * z + (x + (cell x ⊤ ⊥ ⊥ + cell x ⊥ ⊤ ⊥))
      = x + (cell x ⊤ ⊥ ⊥ + cell x ⊥ ⊤ ⊥) - (cell x ⊤ ⊥ ⊥ + (cell x ⊤ ⊥ ⊥ + cell x ⊥ ⊤ ⊥)) * z := by
  rw [cell_empty bot_le, zero_add]
  induction x with
  | top => exact absurd hx (lt_irrefl _)
  | bot => simp [EReal.bot_sub]
  | coe x => simp [cell, EReal.bot_lt_coe, EReal.bot_sub]

end Cert.Bins

end
-- ==== Proof.Array.lean ====
/-
  WHAT THE KERNEL COMPUTES. One block's element is `sample` of the weights, the element's sample and its noise
  (`block_at`); the blocks tile the array (`array_eq`), which the program hands back with its channels moved to their
  place again (`result_eq`).
-/
module

public import proofs.«01_k».proof.Proof.Gen.KernelIdeal.Frame
public import proofs.«01_k».proof.Proof.Bins
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Bins

/-- The literal `0.5`. -/
abbrev half : EReal := Ideal.ofBits .f32 0x3F000000#32

/-- The sum of all the weights but the last. -/
def lower (w : FVec Ideal S30 .f32) : EReal := ∑ i : Fin 29, w (ix1 i.castSucc)

/-- What the kernel makes of one element `x` and its noise `z`, of the sum `s` of all the weights but the last and the
    sum `u` of all: with `d` half the last weight, `-(u + s)/2`, `(u + s)/2` and `u + d` bound the cells that decide the
    distances to the left and to the right. -/
def sample (s u x z : EReal) : EReal :=
  x + (cell x ((0 - (u + s)) * half) ((u + s) * half) ((u - s) * half)
      + cell x (u + (u - s) * half) ((0 - (u + s)) * half) ((u - s) * half))
    - (cell x ((0 - (u + s)) * half) (u + (u - s) * half) ((u - s) * half)
      + (cell x ((0 - (u + s)) * half) ((u + s) * half) ((u - s) * half)
        + cell x (u + (u - s) * half) ((0 - (u + s)) * half) ((u - s) * half))) * z

/-- The selection under two comparisons is a cell. -/
theorem select_cell (x lo hi v : EReal) :
    Scalar.select (IntOp.andi (BitVec.ofBool (decide (lo < x))) (BitVec.ofBool (decide (x ≤ hi)))) v 0 = cell x lo hi v := by
  unfold cell
  by_cases h₁ : lo < x <;> by_cases h₂ : x ≤ hi <;> simp [Scalar.select, IntOp.andi, h₁, h₂]

/-- The sum of all the weights but the last, as the kernel adds them up. -/
theorem lower_eq (w : FVec Ideal S30 .f32) : lower w
    = w (ix1 0) + w (ix1 1) + w (ix1 2) + w (ix1 3) + w (ix1 4) + w (ix1 5) + w (ix1 6) + w (ix1 7) + w (ix1 8)
      + w (ix1 9) + w (ix1 10) + w (ix1 11) + w (ix1 12) + w (ix1 13) + w (ix1 14) + w (ix1 15) + w (ix1 16)
      + w (ix1 17) + w (ix1 18) + w (ix1 19) + w (ix1 20) + w (ix1 21) + w (ix1 22) + w (ix1 23) + w (ix1 24)
      + w (ix1 25) + w (ix1 26) + w (ix1 27) + w (ix1 28) := by
  simp only [lower, Fin.sum_univ_castSucc, Finset.univ_eq_empty, Finset.sum_empty, zero_add]
  rfl

variable (m : (ℓ : Loc nD τ sig) → Buf (Elt Ideal) ℓ)

/-- The windows' index maps, at every point. -/
theorem idx : ∀ t : Fin cfg0.N, win0_0.index t = ![0] ∧ win0_1.index t = ![(grid0.coords t 0).val, (grid0.coords t 1).val, 0, 0]
    ∧ win0_2.index t = ![(grid0.coords t 0).val, (grid0.coords t 1).val, 0, 0]
    ∧ win0_3.index t = ![(grid0.coords t 0).val, (grid0.coords t 1).val, 0, 0] :=
  (by decide +kernel : ∀ t : Fin grid0.N, _)

/-- ONE BLOCK: what the body stores at point `t`, element by element. -/
theorem block_at (c : Dev nD) (t : Fin cfg0.N) (y : S2x64x64x192.Idx) : outsAt0 m c t y
    = sample (lower (iblk m c 0 t)) (lower (iblk m c 0 t) + iblk m c 0 t (ix1 (29 : Fin 30))) (iblk m c 1 t y) (iblk m c 2 t y) := by
  unfold outsAt0
  frame_out
  generalize iblk m c 0 t = w
  generalize iblk m c 1 t = x
  generalize iblk m c 2 t = z
  pointwise [k0_pay1, k0_pay2, k0_pay3, k0_pay4, k0_pay5, k0_pay6, k0_pay7, k0_pay8, k0_pay9, k0_pay10, k0_pay11, k0_pay12, k0_pay13]
  rw [← lower_eq w]
  simp only [select_cell]
  rfl

/-- Window 0's block is the whole array of the weights, at every point. -/
theorem weights_at (c : Dev nD) (t : Fin cfg0.N) : iblk m c 0 t = m ((c : Thread nD τ).loc main_arg2) := by
  funext i
  blk_ext [iblk, V_main_arg2, idx t]

/-- The samples as the kernel's windows find them: with their channels last. -/
theorem samples_eq (c : Dev nD) : V m c main_v0
    = transpose S4x64x64x192 [0, 2, 3, 1] (m ((c : Thread nD τ).loc main_arg0)) transposes_S4x192x64x64_S4x64x64x192_0_2_3_1 := by
  simp only [V, V0, List.flatten_cons, List.flatten_nil, List.append_nil, hostOps0]
  after_results_simp

/-- The noise as the kernel's windows find it: with its channels last. -/
theorem noise_eq (c : Dev nD) : V m c main_v1
    = transpose S4x64x64x192 [0, 2, 3, 1] (m ((c : Thread nD τ).loc main_arg1)) transposes_S4x192x64x64_S4x64x64x192_0_2_3_1 := by
  simp only [V, V0, List.flatten_cons, List.flatten_nil, List.append_nil, hostOps0]
  after_results_simp

/-- An array with its channels moved last, at an index. -/
theorem channels_last (X : FVec Ideal S4x192x64x64 .f32) (i : S4x64x64x192.Idx) :
    transpose S4x64x64x192 [0, 2, 3, 1] X transposes_S4x192x64x64_S4x64x64x192_0_2_3_1 i = X (ix4 (i 0) (i 3) (i 1) (i 2)) := by
  pointwise

/-- Window 1's block at a point is the samples where the result's block lies. -/
theorem samples_at (c : Dev nD) (t : Fin cfg0.N) (y : S2x64x64x192.Idx) : iblk m c 1 t y
    = V m c main_v0 (((cfg0.win 3).blk t).view.emb y) := by
  blk_ext [iblk, idx t]

/-- Window 2's block at a point is the noise where the result's block lies. -/
theorem noise_at (c : Dev nD) (t : Fin cfg0.N) (y : S2x64x64x192.Idx) : iblk m c 2 t y
    = V m c main_v1 (((cfg0.win 3).blk t).view.emb y) := by
  blk_ext [iblk, idx t]

/-- The kernel's array after the run, before the last transpose. -/
def G (X Z : FVec Ideal S4x192x64x64 .f32) (w : FVec Ideal S30 .f32) : FVec Ideal S4x64x64x192 .f32 := fun i =>
  sample (lower w) (lower w + w (ix1 29)) (X (ix4 (i 0) (i 3) (i 1) (i 2))) (Z (ix4 (i 0) (i 3) (i 1) (i 2)))

/-- The kernel's array after the run is `G` of the arguments: every block lies in it where its point says. -/
theorem array_eq (c : Dev nD) : (dats m 0 c).arrAt 3 (cfgs 0).N
    = G (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, block_at, weights_at, samples_at, noise_at, samples_eq, noise_eq, channels_last, channels_last]
  rfl

/-- THE RESULT, element by element: `sample` of the weights, the element's sample and its noise. -/
theorem result_eq (c : Dev nD) : Pipeline.afterTail₀ cfgs (dats m) 0 (V0 m) [hostOps1] c main_v3
    = fun j => sample (lower (m ((c : Thread nD τ).loc main_arg2))) (lower (m ((c : Thread nD τ).loc main_arg2)) + m ((c : Thread nD τ).loc main_arg2) (ix1 29))
       (m ((c : Thread nD τ).loc main_arg0) j) (m ((c : Thread nD τ).loc main_arg1) j) := by
  unfold Pipeline.afterTail₀
  simp only [List.flatten_cons, List.flatten_nil, List.append_nil, hostOps1]
  after_results_simp
  rw [show Pipeline.withArrays (cfgs 0).spec c (V0 m c) (fun w => (dats m 0 c).arrAt w (cfgs 0).N) (Proc.tc.devRef main_v2) = _ from
    (Pipeline.withArrays_arr (cfgs 0).spec launch0.win.arr_inj c (V0 m c) (fun w => (dats m 0 c).arrAt w (cfgs 0).N) 3).trans (array_eq m c)]
  funext j
  idx_vars j
  pointwise [G]

end Cert.KernelIdeal.Value
-- ==== Proof.Reference.lean ====
/-
  WHAT THE REFERENCE COMPUTES. Its composed term is named stage by stage (`res_eq`) and each stage is read at an index;
  the product with the table of the bins is the sum over the bins of one cell each (`pick_at`). `Bounds` says what the
  bins of equal weights are, and under it both distances come down to two cells or one (`pick_lefts`, `pick_rights`);
  `bounds_real` and `bounds_bot` are the two kinds of weight below `⊤`.
-/
module

public import proofs.«01_k».proof.Proof.Gen.ReferenceIdeal.Run
public import proofs.«01_k».proof.Proof.Bins
public import Idealize.ShloMosaic.Lib.Pointwise

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Bins

/-! ## The reference's composed term, stage by stage -/

/-- The running sums of the weights. -/
def sums (w : FVec Ideal S30 .f32) : FVec Ideal S30 .f32 :=
  Host.reduceWindowAdd ![30] ![1] ![29] ![0] w (broadcastInDim S_ ![] bcast_S_S_ (constant S_ .f32 0x00000000#32)) reduceWindows_S30_S30_w30s1p29_0 h_S_

/-- A single zero. -/
def zero : FVec Ideal S1 .f32 := broadcastInDim S1 ![] bcast_S_S1 (constant S_ .f32 0x00000000#32)

/-- The 61 edges: the running sums negated and reversed, zero, the running sums. -/
def cum (w : FVec Ideal S30 .f32) : FVec Ideal S61 .f32 :=
  concatenate S61 0 [⟨S30, Host.negf (Host.reverse [0] (sums w))⟩, ⟨S1, zero⟩, ⟨S30, sums w⟩] concatenates_S30_S1_S30_S61_d0

/-- The midpoints of adjacent edges. -/
def avg (w : FVec Ideal S30 .f32) : FVec Ideal S60 .f32 :=
  mulf (addf (extractStridedSlice S60 ![1] (cum w) slices_S61_S60_1) (extractStridedSlice S60 ![0] (cum w) slices_S61_S60_0))
    (broadcastInDim S60 ![] bcast_S_S60 (constant S_ .f32 0x3F000000#32))

/-- Half the distances of adjacent edges. -/
def dist (w : FVec Ideal S30 .f32) : FVec Ideal S60 .f32 :=
  mulf (subf (extractStridedSlice S60 ![1] (cum w) slices_S61_S60_1) (extractStridedSlice S60 ![0] (cum w) slices_S61_S60_0))
    (broadcastInDim S60 ![] bcast_S_S60 (constant S_ .f32 0x3F000000#32))

/-- The bound the first bin starts from. -/
def first (w : FVec Ideal S30 .f32) : FVec Ideal S1 .f32 :=
  broadcastInDim S1 ![] bcast_S_S1 (Host.negf (subf (shapeCast S_ (extractStridedSlice S1 ![0] (cum w) slices_S61_S1_0) shapeCasts_S1_S_)
    (shapeCast S_ (extractStridedSlice S1 ![0] (dist w) slices_S60_S1_0) shapeCasts_S1_S_)) : FVec Ideal S_ .f32)

/-- The bound the last bin ends at. -/
def last (w : FVec Ideal S30 .f32) : FVec Ideal S1 .f32 :=
  broadcastInDim S1 ![] bcast_S_S1 (addf (shapeCast S_ (extractStridedSlice S1 ![60] (cum w) slices_S61_S1_60) shapeCasts_S1_S_)
    (shapeCast S_ (extractStridedSlice S1 ![59] (dist w) slices_S60_S1_59) shapeCasts_S1_S_) : FVec Ideal S_ .f32)

/-- The bins' lower bounds. -/
def lows (w : FVec Ideal S30 .f32) : FVec Ideal S61 .f32 :=
  concatenate S61 0 [⟨S1, first w⟩, ⟨S60, avg w⟩] concatenates_S1_S60_S61_d0

/-- The bins' upper bounds. -/
def highs (w : FVec Ideal S30 .f32) : FVec Ideal S61 .f32 :=
  concatenate S61 0 [⟨S60, avg w⟩, ⟨S1, last w⟩] concatenates_S60_S1_S61_d0

/-- Each bin's distance to the left. -/
def lefts (w : FVec Ideal S30 .f32) : FVec Ideal S61 .f32 :=
  concatenate S61 0 [⟨S1, zero⟩, ⟨S60, dist w⟩] concatenates_S1_S60_S61_d0

/-- Each bin's distance to the right. -/
def rights (w : FVec Ideal S30 .f32) : FVec Ideal S61 .f32 :=
  concatenate S61 0 [⟨S60, dist w⟩, ⟨S1, zero⟩] concatenates_S60_S1_S61_d0

/-- Which bin each sample lies in: one there, zero elsewhere. -/
def onehot (x : FVec Ideal S3145728 .f32) (w : FVec Ideal S30 .f32) : FVec Ideal S3145728x61 .f32 :=
  uitofp .f32 (andi
    (cmpf .ogt (broadcastInDim S3145728x61 ![0, 1] bcast_S3145728x1_S3145728x61_0_1 (broadcastInDim S3145728x1 ![0] bcast_S3145728_S3145728x1_0 x))
      (broadcastInDim S3145728x61 ![0, 1] bcast_S1x61_S3145728x61_0_1 (broadcastInDim S1x61 ![1] bcast_S61_S1x61_1 (lows w))))
    (cmpf .ole (broadcastInDim S3145728x61 ![0, 1] bcast_S3145728x1_S3145728x61_0_1 (broadcastInDim S3145728x1 ![0] bcast_S3145728_S3145728x1_0 x))
      (broadcastInDim S3145728x61 ![0, 1] bcast_S1x61_S3145728x61_0_1 (broadcastInDim S1x61 ![1] bcast_S61_S1x61_1 (highs w)))))

/-- The distances `D` of the bins the samples lie in. -/
def pick (X : FVec Ideal S4x192x64x64 .f32) (w : FVec Ideal S30 .f32) (D : FVec Ideal S61 .f32) : FVec Ideal S4x192x64x64 .f32 :=
  shapeCast S4x192x64x64 (Host.dotGeneral dot_S3145728x61_S61_S3145728_1_0_0_n_n_n none
    (onehot (shapeCast S3145728 X shapeCasts_S4x192x64x64_S3145728) w) D : FVec Ideal S3145728 .f32) shapeCasts_S3145728_S4x192x64x64

/-- The reference's result. -/
def result (X Z : FVec Ideal S4x192x64x64 .f32) (w : FVec Ideal S30 .f32) : FVec Ideal S4x192x64x64 .f32 :=
  addf (mulf (subf (subf X (pick X w (lefts w))) (addf X (pick X w (rights w)))) Z) (addf X (pick X w (rights w)))

/-- The reference's result is the composition of the stages. -/
theorem res_eq (m : (ℓ : Loc nD τ sig) → Buf (Elt Ideal) ℓ) (c : Dev nD) : res_out0 m c
    = result (m ((c.tc : Thread nD τ).loc main_arg0)) (m ((c.tc : Thread nD τ).loc main_arg1)) (m ((c.tc : Thread nD τ).loc main_arg2)) := by
  rfl

/-- The table of the bins holds one where the element lies in the bin, zero elsewhere. -/
theorem onehot_at (x : FVec Ideal S3145728 .f32) (w : FVec Ideal S30 .f32) (n : Fin 3145728) (k : Fin 61) :
    onehot x w (ix2 n k) = cell (x (ix1 n)) (lows w (ix1 k)) (highs w (ix1 k)) 1 := by
  pointwise [onehot]
  by_cases h₁ : lows w (ix1 k) < x (ix1 n) <;> by_cases h₂ : x (ix1 n) ≤ highs w (ix1 k) <;> simp [cell, IntOp.andi, FloatOps.uitofp, h₁, h₂]

/-- The product with the table, at an index, is the sum over the bins. -/
theorem dot_at (A : FVec Ideal S3145728x61 .f32) (D : FVec Ideal S61 .f32) (n : Fin 3145728) :
    (Host.dotGeneral dot_S3145728x61_S61_S3145728_1_0_0_n_n_n none A D : FVec Ideal S3145728 .f32) (ix1 n)
      = ∑ k : Fin 61, A (ix2 n k) * D (ix1 k) := by
  pointwise

/-- A fold that adds `c` where `P` holds and zero elsewhere counts. -/
theorem foldl_count {ι : Type} (P : ι → Prop) [DecidablePred P] (c : EReal) (l : List ι) (a : EReal) :
    l.foldl (fun r n => r + if P n then c else 0) a = a + (l.countP P) • c := by
  induction l generalizing a with
  | nil => simp
  | cons n l ih =>
    rw [List.foldl_cons, ih, List.countP_cons]
    by_cases h : P n
    · rw [if_pos h, if_pos (decide_eq_true h), add_nsmul, one_nsmul]
      ac_rfl
    · rw [if_neg h, if_neg (by simpa using h), add_zero, add_zero]

/-- The running sums of equal weights `c` are its multiples. -/
theorem sums_at {w : FVec Ideal S30 .f32} {c : EReal} (hw : ∀ i : Fin 30, w (ix1 i) = c) (k : Fin 30) :
    sums w (ix1 k) = (k.val + 1) • c := by
  have hw' : ∀ i, w i = c := fun i => by rw [← hw (i 0)]; congr 1; funext a; fin_cases a; rfl
  unfold sums Host.reduceWindowAdd
  rw [Ideal.hostReduceWindowAdd_def]
  unfold Ideal.hostReduceWindowAdd Host.reduceWindow
  simp only [hw']
  have hz : broadcastInDim S_ ![] bcast_S_S_ (constant (F := Ideal) S_ FTy.f32 0#32) (Shape.Idx.first h_S_) = (0 : EReal) := by
    pointwise
  rw [hz]
  have hc : ∀ k : Fin 30, (List.finRange (⟨1, ![30]⟩ : Shape).numel).countP (fun n => decide (∀ a : Fin 1,
        ![29] a ≤ (ix1 k (Fin.cast rfl a)).val * ![1] a + ((⟨1, ![30]⟩ : Shape).rowMajor.symm n a).val ∧
          (ix1 k (Fin.cast rfl a)).val * ![1] a + ((⟨1, ![30]⟩ : Shape).rowMajor.symm n a).val - ![29] a < ![30] a)) = k.val + 1 := by
    decide +kernel
  refine (foldl_count _ c _ 0).trans ?_
  rw [zero_add]
  exact congrArg (· • c) (hc k)

/-- The single zero is zero. -/
theorem zero_at (i : Fin 1) : zero (ix1 i) = (0 : EReal) := by
  pointwise [zero]

/-- The edges at an index: thirty negated sums in falling order, zero, thirty sums in rising order. -/
theorem cum_at (w : FVec Ideal S30 .f32) (k : Fin 61) : cum w (ix1 k) =
    if h : k.val < 30 then -sums w (ix1 (Fin.rev ⟨k.val, h⟩))
    else if h : k.val - 30 < 1 then (0 : EReal) else sums w (ix1 ⟨k.val - 30 - 1, by omega⟩) := by
  pointwise [cum]
  simp only [zero_at]
  rfl

/-- The midpoint of two neighbouring edges. -/
theorem avg_at (w : FVec Ideal S30 .f32) (k : Fin 60) :
    avg w (ix1 k) = (cum w (ix1 k.succ) + cum w (ix1 k.castSucc)) * Ideal.ofBits .f32 0x3F000000#32 := by
  pointwise [avg]
  have h : (⟨1 + k.val, by omega⟩ : Fin 61) = k.succ := Fin.ext (Nat.add_comm _ _)
  rw [← h]
  rfl

/-- Half the way between two neighbouring edges. -/
theorem dist_at (w : FVec Ideal S30 .f32) (k : Fin 60) :
    dist w (ix1 k) = (cum w (ix1 k.succ) - cum w (ix1 k.castSucc)) * Ideal.ofBits .f32 0x3F000000#32 := by
  pointwise [dist]
  have h : (⟨1 + k.val, by omega⟩ : Fin 61) = k.succ := Fin.ext (Nat.add_comm _ _)
  rw [← h]
  rfl

/-- The first bin starts at the lowest edge less its distance, negated. -/
theorem lows_zero (w : FVec Ideal S30 .f32) : lows w (ix1 0) = -(cum w (ix1 0) - dist w (ix1 0)) := by
  pointwise [lows, first]

/-- Every other bin starts at the midpoint before it. -/
theorem lows_succ (w : FVec Ideal S30 .f32) (k : Fin 60) : lows w (ix1 k.succ) = avg w (ix1 k) := by
  pointwise [lows, first]
  exact dif_neg (by simp)

/-- Every bin but the last ends at its midpoint. -/
theorem highs_castSucc (w : FVec Ideal S30 .f32) (k : Fin 60) : highs w (ix1 k.castSucc) = avg w (ix1 k) := by
  pointwise [highs, last]
  exact dif_pos k.isLt

/-- The last bin ends at the topmost edge and its distance. -/
theorem highs_last (w : FVec Ideal S30 .f32) : highs w (ix1 60) = cum w (ix1 60) + dist w (ix1 59) := by
  pointwise [highs, last]

/-- The first bin has no distance to its left. -/
theorem lefts_zero (w : FVec Ideal S30 .f32) : lefts w (ix1 0) = (0 : EReal) := by
  pointwise [lefts]
  exact zero_at 0

/-- Every other bin has the distance before it to its left. -/
theorem lefts_succ (w : FVec Ideal S30 .f32) (k : Fin 60) : lefts w (ix1 k.succ) = dist w (ix1 k) := by
  pointwise [lefts]
  exact dif_neg (by simp)

/-- Every bin but the last has its distance to its right. -/
theorem rights_castSucc (w : FVec Ideal S30 .f32) (k : Fin 60) : rights w (ix1 k.castSucc) = dist w (ix1 k) := by
  pointwise [rights]
  exact dif_pos k.isLt

/-- The last bin has no distance to its right. -/
theorem rights_last (w : FVec Ideal S30 .f32) : rights w (ix1 60) = (0 : EReal) := by
  pointwise [rights]
  exact zero_at 0

/-- The reference's last line, at an index. -/
theorem result_at (X Z : FVec Ideal S4x192x64x64 .f32) (w : FVec Ideal S30 .f32) (j : S4x192x64x64.Idx) :
    result X Z w j = (X j - pick X w (lefts w) j - (X j + pick X w (rights w) j)) * Z j + (X j + pick X w (rights w) j) := by
  rfl

/-- The distance picked for an element is the sum over the bins of the cell it may lie in. -/
theorem pick_at (X : FVec Ideal S4x192x64x64 .f32) (w : FVec Ideal S30 .f32) (D : FVec Ideal S61 .f32) (j : S4x192x64x64.Idx) :
   pick X w D j = ∑ k : Fin 61, cell (X j) (lows w (ix1 k)) (highs w (ix1 k)) (D (ix1 k)) := by
  have hd : ∀ n : S3145728.Idx, Host.dotGeneral dot_S3145728x61_S61_S3145728_1_0_0_n_n_n none
      (onehot (shapeCast S3145728 X shapeCasts_S4x192x64x64_S3145728) w) D n =
      ∑ k : Fin 61, cell (shapeCast S3145728 X shapeCasts_S4x192x64x64_S3145728 n) (lows w (ix1 k)) (highs w (ix1 k)) (D (ix1 k)) := by
    intro n
    obtain ⟨n, rfl⟩ : ∃ i, n = ix1 i := ⟨n 0, by funext a; fin_cases a; rfl⟩
    rw [dot_at]
    refine Finset.sum_congr rfl fun k _ => ?_
    rw [onehot_at]
    unfold cell
    split <;> simp
  unfold pick
  show Host.dotGeneral dot_S3145728x61_S61_S3145728_1_0_0_n_n_n none _ D (Shape.reshapeEquiv _ j) = _
  rw [hd]
  simp only [shapeCast]
  have he : Shape.reshapeEquiv shapeCasts_S4x192x64x64_S3145728 (Shape.reshapeEquiv shapeCasts_S3145728_S4x192x64x64 j) = j := by
    simp [Shape.reshapeEquiv]
  rw [he]

/-! ## Equal weights -/

/-- What the bins are when the weights are equal: consecutive bins share the edges `e`, the first starts from the topmost
    edge and the last ends there, and every distance is `d`. -/
structure Bounds (w : FVec Ideal S30 .f32) (e : ℕ → EReal) (d : EReal) : Prop where
  ordered : Monotone e ∨ Antitone e
  avg : ∀ k : Fin 60, avg w (ix1 k) = e k
  dist : ∀ k : Fin 60, dist w (ix1 k) = d
  first : -(cum w (ix1 0) - d) = e 60
  last : cum w (ix1 60) + d = e 60

namespace Bounds

variable {w : FVec Ideal S30 .f32} {e : ℕ → EReal} {d : EReal} (b : Bounds w e d)
include b

/-- Every bin but the first starts at the edge before it. -/
theorem lows_succ (k : Fin 60) : lows w (ix1 k.succ) = e k := (Value.lows_succ w k).trans (b.avg k)

/-- The first bin starts at the topmost edge. -/
theorem lows_zero : lows w (ix1 0) = e 60 := by rw [Value.lows_zero, b.dist, b.first]

/-- Every bin ends at its edge. -/
theorem highs (k : Fin 61) : highs w (ix1 k) = e k := by
  induction k using Fin.lastCases with
  | last => exact (Value.highs_last w).trans (by rw [b.dist, b.last]; rfl)
  | cast k => exact (Value.highs_castSucc w k).trans (b.avg k)

/-- The distance to the left edge of an element's bin, as one cell. -/
theorem pick_lefts (X : FVec Ideal S4x192x64x64 .f32) (j : S4x192x64x64.Idx) :
    pick X w (lefts w) j = cell (X j) (e 0) (e 60) d := by
  rw [pick_at]
  exact left_sum b.ordered (X j) d b.lows_succ b.highs (lefts_zero w) fun k => (lefts_succ w k).trans (b.dist k)

/-- The distance to the right edge of an element's bin, as two cells. -/
theorem pick_rights (X : FVec Ideal S4x192x64x64 .f32) (j : S4x192x64x64.Idx) :
    pick X w (rights w) j = cell (X j) (e 0) (e 59) d + cell (X j) (e 60) (e 0) d := by
  rw [pick_at]
  exact right_sum b.ordered (X j) d b.lows_zero b.lows_succ b.highs (fun k => (rights_castSucc w k).trans (b.dist k))
    (rights_last w)

end Bounds

/-- The word `0x3F000000` is one half. -/
theorem half_eq : Ideal.ofBits .f32 0x3F000000#32 = ((1 / 2 : ℝ) : EReal) := by
  simp [Ideal.ofBits, Ideal.ieee]
  rw [← EReal.coe_mul]
  norm_num

/-- Half of `⊤` is `⊤`. -/
theorem top_half : (⊤ : EReal) * Ideal.ofBits .f32 0x3F000000#32 = ⊤ := by
  rw [half_eq, EReal.top_mul_coe_of_pos (by norm_num)]

/-- Half of `⊥` is `⊥`. -/
theorem bot_half : (⊥ : EReal) * Ideal.ofBits .f32 0x3F000000#32 = ⊥ := by
  rw [half_eq, EReal.bot_mul_coe_of_pos (by norm_num)]

/-- Adding up copies of a real multiplies it. -/
theorem nsmul_real (n : ℕ) (r : ℝ) : n • (r : EReal) = ((n * r : ℝ) : EReal) := by
  rw [← EReal.coe_nsmul, nsmul_eq_mul]

/-- Adding up copies of `⊥`, at least one, gives `⊥`. -/
theorem nsmul_bot (n : ℕ) : (n + 1) • (⊥ : EReal) = ⊥ := by
  rw [add_nsmul, one_nsmul, EReal.add_bot]

/-- The edges of equal real weights `r` are the multiples of `r` from `-30 r` to `30 r`. -/
theorem cum_real {w : FVec Ideal S30 .f32} {r : ℝ} (hw : ∀ i : Fin 30, w (ix1 i) = (r : EReal)) (k : Fin 61) :
    cum w (ix1 k) = (((k.val : ℝ) - 30) * r : ℝ) := by
  rw [cum_at]
  split_ifs with h h'
  · rw [sums_at hw, nsmul_real, ← EReal.coe_neg, Fin.val_rev]
    congr 1
    rw [show 30 - (k.val + 1) + 1 = 30 - k.val by omega, Nat.cast_sub h.le]
    push_cast; ring
  · rw [show k.val = 30 by omega]; simp
  · rw [sums_at hw, nsmul_real]
    congr 1
    rw [show k.val - 30 - 1 + 1 = k.val - 30 by omega, Nat.cast_sub (by omega)]
    push_cast; ring

/-- The bins of equal real weights `r` have the edges `edge r` and the distance `r / 2`. -/
theorem bounds_real {w : FVec Ideal S30 .f32} {r : ℝ} (hw : ∀ i : Fin 30, w (ix1 i) = (r : EReal)) :
    Bounds w (edge r) ((r / 2 : ℝ) : EReal) where
  ordered := edge_ordered r
  avg k := by
    rw [avg_at, cum_real hw, cum_real hw, half_eq, ← EReal.coe_add, ← EReal.coe_mul, edge]
    congr 1
    simp only [Fin.val_succ, Fin.val_castSucc]; push_cast; ring
  dist k := by
    rw [dist_at, cum_real hw, cum_real hw, half_eq, ← EReal.coe_sub, ← EReal.coe_mul]
    congr 1
    simp only [Fin.val_succ, Fin.val_castSucc]; push_cast; ring
  first := by
    rw [cum_real hw, ← EReal.coe_sub, ← EReal.coe_neg, edge]
    congr 1
    simp; ring
  last := by
    rw [cum_real hw, ← EReal.coe_add, edge]
    congr 1
    simp; ring

/-- The edges of weights that are all `⊥`: `⊤` below the middle, zero in it, `⊥` above. -/
theorem cum_bot {w : FVec Ideal S30 .f32} (hw : ∀ i : Fin 30, w (ix1 i) = (⊥ : EReal)) (k : Fin 61) :
    cum w (ix1 k) = if k.val < 30 then (⊤ : EReal) else if k.val = 30 then 0 else ⊥ := by
  rw [cum_at]
  split_ifs with h h' h' h'
  · rw [sums_at hw, nsmul_bot, EReal.neg_bot]
  · rfl
  · omega
  · omega
  · rw [sums_at hw, nsmul_bot]

/-- The bins of weights that are all `⊥` have the edges `edgeBot` and the distance `⊥`. -/
theorem bounds_bot {w : FVec Ideal S30 .f32} (hw : ∀ i : Fin 30, w (ix1 i) = (⊥ : EReal)) : Bounds w edgeBot ⊥ where
  ordered := edgeBot_ordered
  avg k := by
    rw [avg_at, cum_bot hw, cum_bot hw, edgeBot]
    simp only [Fin.val_succ, Fin.val_castSucc]
    split_ifs <;> first | omega | simp [top_half, bot_half]
  dist k := by
    rw [dist_at, cum_bot hw, cum_bot hw]
    simp only [Fin.val_succ, Fin.val_castSucc]
    split_ifs <;> first | omega | simp [top_half, bot_half, EReal.bot_sub, sub_eq_add_neg]
  first := by
    rw [cum_bot hw]
    simp [edgeBot, sub_eq_add_neg]
  last := by
    simp [edgeBot]

end Cert.ReferenceIdeal.Value

end
-- ==== Proof.Equation.lean ====
/-
  THE EQUATION: of equal weights below `⊤`, and samples below `⊤`, the kernel's element is the reference's. Both pick the
  same cells of the same edges: `edge r` where the weight is the real `r`, `edgeBot` where it is `⊥`.
-/
module

public import proofs.«01_k».proof.Proof.Array
public import proofs.«01_k».proof.Proof.Reference

@[expose] public section

set_option maxRecDepth 16384

noncomputable section

namespace Cert.Equation

open Idealize.ShloMosaic
open Cert.Bins Cert.KernelIdeal.Value Cert.ReferenceIdeal.Value

/-- The sum of the first 29 of equal weights. -/
theorem lower_of {w : FVec Ideal Cert.KernelIdeal.S30 .f32} {c : EReal} (hw : ∀ i : Fin 30, w (ix1 i) = c) :
    lower w = 29 • c := by
  unfold lower
  simp only [hw]
  rw [Finset.sum_const, Finset.card_univ, Fintype.card_fin]

/-- The kernel's element, of equal real weights. -/
theorem sample_real (r : ℝ) (x z : EReal) :
    sample (29 • (r : EReal)) (29 • (r : EReal) + r) x z
      = x + (cell x (edge r 0) (edge r 59) (r / 2 : ℝ) + cell x (edge r 60) (edge r 0) (r / 2 : ℝ))
        - (cell x (edge r 0) (edge r 60) (r / 2 : ℝ)
          + (cell x (edge r 0) (edge r 59) (r / 2 : ℝ) + cell x (edge r 60) (edge r 0) (r / 2 : ℝ))) * z := by
  have h₀ : (0 - (29 • (r : EReal) + r + 29 • (r : EReal))) * half = edge r 0 := by
    rw [nsmul_real, half, half_eq, edge]
    norm_cast
    push_cast; ring
  have h₁ : (29 • (r : EReal) + r + 29 • (r : EReal)) * half = edge r 59 := by
    rw [nsmul_real, half, half_eq, edge]
    norm_cast
    push_cast; ring
  have h₂ : (29 • (r : EReal) + r - 29 • (r : EReal)) * half = ((r / 2 : ℝ) : EReal) := by
    rw [nsmul_real, half, half_eq]
    norm_cast
    push_cast; ring
  have h₃ : 29 • (r : EReal) + r + ((r / 2 : ℝ) : EReal) = edge r 60 := by
    rw [nsmul_real, edge]
    norm_cast
    push_cast; ring
  unfold sample
  rw [h₂, h₀, h₁, h₃]

/-- The kernel's element, of weights that are all `⊥`. -/
theorem sample_of_bot (x z : EReal) :
    sample (29 • ⊥) (29 • ⊥ + ⊥) x z
      = x + (cell x ⊤ ⊥ ⊥ + cell x ⊥ ⊤ ⊥) - (cell x ⊤ ⊥ ⊥ + (cell x ⊤ ⊥ ⊥ + cell x ⊥ ⊤ ⊥)) * z := by
  unfold sample
  rw [nsmul_bot 28]
  simp only [EReal.bot_add, EReal.add_bot, EReal.bot_sub, half, bot_half, top_half, sub_eq_add_neg, EReal.neg_bot, zero_add, ]

/-- The two programs' elements agree where the weights are equal and below `⊤` and the sample lies below `⊤`. -/
theorem equation {X Z : FVec Ideal Cert.ReferenceIdeal.S4x192x64x64 .f32} {w : FVec Ideal Cert.ReferenceIdeal.S30 .f32}
    (hw : ∀ i : Fin 30, w (ix1 i) = w (ix1 0)) (hc : w (ix1 0) < ⊤) (hX : ∀ j, X j < ⊤)
    (j : Cert.ReferenceIdeal.S4x192x64x64.Idx) :
    result X Z w j = sample (lower w) (lower w + w (ix1 29)) (X j) (Z j) := by
  rw [lower_of hw, hw 29, result_at]
  obtain ⟨c, h⟩ : ∃ c : EReal, w (ix1 0) = c := ⟨_, rfl⟩
  rw [h] at hw hc ⊢
  induction c with
  | top => exact absurd hc (lt_irrefl _)
  | bot =>
    rw [(bounds_bot hw).pick_lefts, (bounds_bot hw).pick_rights, sample_of_bot]
    exact sample_bot (hX j) (Z j)
  | coe r =>
    rw [(bounds_real hw).pick_lefts, (bounds_real hw).pick_rights, sample_real]
    obtain ⟨a, ha⟩ := cell_real (X j) (edge r 0) (edge r 60) (r / 2)
    obtain ⟨b, hb⟩ := cell_real (X j) (edge r 0) (edge r 59) (r / 2)
    obtain ⟨b', hb'⟩ := cell_real (X j) (edge r 60) (edge r 0) (r / 2)
    rw [ha, hb, hb', ← EReal.coe_add]
    exact sample_eq (hX j) a (b + b') (Z j)

end Cert.Equation

end
-- ==== Proof.Weights.lean ====
/-
  WHAT THE PRECONDITION SAYS of its arguments, read off the program it is printed as: the weights equal the first of them,
  and they and the samples lie below `⊤`.
-/
module

public import proofs.«01_k».proof.Pre_equal_weights
public import Idealize.ShloMosaic.Lib.Pointwise
public import Idealize.ShloMosaic.Lib.ReduceAll

@[expose] public section

set_option maxRecDepth 16384

noncomputable section

namespace Cert.Pre_equal_weights

open Idealize.ShloMosaic Facts

/-- What the precondition's program states of its shapes. -/
theorem facts : Facts where
  bcast_S_S4x192x64x64 := by decide
  slices_S30_S1_0 := by decide
  shapeCasts_S1_S_ := by decide
  bcast_S_S30 := by decide
  reducesTo_S30_S_d0 := by decide
  h_S_ := by decide

/-- The literal for infinity is the top of the extended reals. -/
theorem inf_eq : Ideal.ofBits .f32 0x7F800000#32 = ⊤ := by simp [Ideal.ofBits, Ideal.ieee]

/-- A comparison whose bit is set holds. -/
theorem one_of_ofBool {p : Prop} [Decidable p] (h : BitVec.ofBool (decide p) = 1#1) : p := by
  by_contra hp
  rw [decide_eq_false hp] at h
  exact absurd h (by decide)

variable [Facts]

/-- The precondition's value is all ones only if every weight is the first weight, no weight is `⊤` and no sample is. -/
theorem spec {X Z : FVec Ideal S4x192x64x64 .f32} {w : FVec Ideal S30 .f32} (h : fn X Z w = fun _ => 1#1) :
    (∀ i : Fin 30, w (ix1 i) = w (ix1 0)) ∧ w (ix1 0) < ⊤ ∧ ∀ j, X j < ⊤ := by
  have h₁ : ∀ j, FloatOps.cmpf .olt (X j) (Ideal.ofBits .f32 0x7F800000#32) = 1#1 ∧ _ = 1#1 := fun j => IntOp.andi_eq_one.mp (congrFun h j)
  have h₂ := fun i : Fin 30 => Host.reduce_andi_all _ _ _ _ _ (h₁ (ix4 0 0 0 0)).2 (ix1 i)
  pointwise at h₂
  have h₃ : ∀ i : Fin 30, w (ix1 i) = w (ix1 0) ∧ w (ix1 i) < Ideal.ofBits .f32 0x7F800000#32 := fun i =>
    ⟨one_of_ofBool (IntOp.andi_eq_one.mp (h₂ i)).1, one_of_ofBool (IntOp.andi_eq_one.mp (h₂ i)).2⟩
  rw [inf_eq] at h₃
  refine ⟨fun i => (h₃ i).1, (h₃ 0).2, fun j => ?_⟩
  rw [← inf_eq]
  exact one_of_ofBool (h₁ j).1

end Cert.Pre_equal_weights

end
-- ==== Proof.lean ====
/-
  The five claims. The kernel's result is its array of samples (`result_eq`), the reference's is its composed term
  (`res_eq`), and of equal weights below `⊤` they are the same (`equation`). The programs' runs to the end and the
  arguments they leave alone come from their generated modules.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import proofs.«01_k».proof.Proof.Weights
public import Idealize.ShloMosaic.Adequacy
public import Idealize.ShloMosaic.Lib.Claim
public import Idealize.ShloMosaic.Init

@[expose] public section

noncomputable section

namespace Cert.Proof

open Idealize.ShloMosaic Idealize.SL.Sem Cert.Kernel

/-- The reference runs to its end, with its arguments as they were and every semaphore at zero. -/
theorem reference_frame : quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

/-- Every claim holds. -/
theorem claim : Cert.Claim := by
  refine ⟨Cert.Kernel.Gen.facts, Cert.KernelIdeal.Gen.facts, Cert.ReferenceIdeal.Gen.facts, Cert.Pre_equal_weights.facts,
    fun m g _ => Cert.Kernel.Gen.frame m g, fun m g _ => Cert.KernelIdeal.Gen.frame m g, fun m g _ => Cert.KernelIdeal.Gen.frame m g,
    reference_frame, fun m g _ => reference_frame m g trivial, trivial, ?_⟩
  · pair_intro
    · run_from Cert.KernelIdeal.Gen.run_main m g
      · exact Cert.KernelIdeal.Gen.W_main_arg0 m _ c
      · exact Cert.KernelIdeal.Gen.W_main_arg1 m _ c
    · run_from Cert.ReferenceIdeal.Value.run m' g'
      funext j
      haveI := Cert.Pre_equal_weights.facts
      obtain ⟨hw, hc, hX⟩ := Cert.Pre_equal_weights.spec (hpre c)
      obtain ⟨h0, h1, h2⟩ := hagree c
      exact (congrFun (Cert.ReferenceIdeal.Value.res_eq m' c) j).trans ((by rw [h0, h1, h2]; exact Cert.Equation.equation hw hc hX j :
        _ = _).trans (congrFun (Cert.KernelIdeal.Value.result_eq m c) j).symm)

end Cert.Proof

end
